-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 4
  | .smem => 1
  | _ => 0

abbrev bufTy : (tb : Table) → Fin (tcTables nBuf tb) → BufTy
  | .hbm, ⟨0, _⟩ => ⟨S1x256x256, .f32⟩
  | .hbm, ⟨1, _⟩ => ⟨S2, .i32⟩
  | .hbm, ⟨2, _⟩ => ⟨S1x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .bf16⟩
  | .local _ .vmem, ⟨3, _⟩ => ⟨S1x256x256, .bf16⟩
  | .local _ .smem, ⟨0, _⟩ => ⟨S2, .i32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_10 : BitVec 32 := 0#32
  let c8_i32_9 : BitVec 32 := 8#32
  let v24 : BitVec 32 := Scalar.muli v10 c8_i32_9
  let v25 : BitVec 32 := Scalar.addi c0_i32_10 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v26 : BitVec 32 := Scalar.muli v5 c4_i32_11
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v28 : BitVec 32 := Scalar.muli v8 c1_i32_12
  let v29 : BitVec 32 := Scalar.addi v27 v28
  v29.toNat
def k0_cond2 (d0 : Dev nD) (v10 : BitVec 32) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 1 := Scalar.cmpi .ne v10 v2
  let v15 : BitVec 32 := Scalar.extui v14
  let c0_i32_2 : BitVec 32 := 0#32
  let v16 : BitVec 1 := Scalar.cmpi .ne v15 c0_i32_2
  v16

def k0_dev2 (d0 : Dev nD) (v10 : BitVec 32) : Nat :=
  let c0_i32_15 : BitVec 32 := 0#32
  let c8_i32_14 : BitVec 32 := 8#32
  let v30 : BitVec 32 := Scalar.muli v10 c8_i32_14
  let v31 : BitVec 32 := Scalar.addi c0_i32_15 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v32 : BitVec 32 := Scalar.muli v5 c4_i32_16
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v34 : BitVec 32 := Scalar.muli v8 c1_i32_17
  let v35 : BitVec 32 := Scalar.addi v33 v34
  v35.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2 k0_h2

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Same.lean ====
/- The kernel is printed twice, once for each of the float readings it is claimed at; the two texts are the same program, so
   what is proved of the second at any float values is had of the first. -/
module

public import proofs.«01_k».proof.Proof.Gen.Kernel.Launch
public import proofs.«01_k».proof.Proof.Gen.KernelIdeal.Launch

@[expose] public section

noncomputable section

namespace Cert.Permute

open Idealize.ShloMosaic Idealize.SL.Sem

variable {F : FTy → Type} [FloatOps F]

/-- The two kernels' bodies, as the definitions of their one label, are one. -/
theorem labels_same : @Cert.Kernel.defs₀ F _ _ = @Cert.KernelIdeal.defs₀ F _ _ := by
  unfold Cert.Kernel.defs₀ Cert.KernelIdeal.defs₀
  exact congrArg Defs.onTc (funext fun l => funext fun a => match l, a with | 0, (_, _) => rfl)

/-- The two programs' definitions are one. -/
theorem defs_same : @Cert.Kernel.defs F _ _ = @Cert.KernelIdeal.defs F _ _ := by
  unfold Cert.Kernel.defs Cert.KernelIdeal.defs
  rw [labels_same]; rfl

/-- What every fair execution of the second print ends with, every fair execution of the first ends with. -/
theorem run_same (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_same]; exact h

end Cert.Permute

end
-- ==== Proof.Setting.lean ====
/- The setting that the two runs of this certificate share (Swap.lean: `pi = [1, 0]`; Stay.lean: `pi = [0, 1]`): the resources,
   the buffers and the staged contents, the word of `pi` that a device reads, the pipeline's proof data for any result, and
   the launch, which asks of each run its body, its semaphores and its levels. All at any float values. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Pipeline.CollectiveSegs
public import Idealize.ShloMosaic.Lib.Tactic

@[expose] public section

noncomputable section

namespace Cert.Permute

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## Resources -/

/-- The ghost resources: the pipeline's rounds, and the rounds of the kernel's own semaphores, one duty to a round. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

variable (m : (ℓ : Loc nD τ sig) → Buf (Elt F) ℓ) (ρ : Dev nD → PrngReg)

/-! ## Buffers and semaphores -/

/-- The staged block, the staged `pi`, the staged result, and the two scratch buffers: the one a device sends from and
    the one its partner's block lands in. -/
abbrev xM : Memref sig .tc .vmem S1x256x256 .f32 := Memref.whole cc0_stg0_0
abbrev piM : Memref sig .tc .smem S2 .i32 := Memref.whole cc0_stg1_0
abbrev outM : Memref sig .tc .vmem S1x256x256 .f32 := Memref.whole cc0_stg2_0
abbrev sendM : Memref sig .tc .vmem S1x256x256 .bf16 := Memref.whole cc0_scratch0
abbrev landM : Memref sig .tc .vmem S1x256x256 .bf16 := Memref.whole cc0_scratch1

/-- The barrier semaphore of the collective, and the two transfer semaphores. -/
abbrev barS : Sem sig := (SemArray.scalar (sig.barrier 0 rfl) : Sems sig S_).sem
abbrev sentS : DmaSem sig := cc0_scratch2.sem
abbrev recvS : DmaSem sig := cc0_scratch3.sem

/-- The kernel's own scoped semaphores, as the launch lists them. -/
abbrev ownSem : Fin 2 → SemLoc sig := fun | 0 => .dma sentS | 1 => .dma recvS

theorem ownSem_facts : Pipeline.OwnSemFacts cfg0.spec ownSem := by decide

omit [FloatOps F] in
/-- At launch and at exit the scoped semaphores of a device read zero: the two transfer semaphores. -/
theorem ownSems0_eq (c : Dev nD) : (Pipeline.ownSems0 (Ix := Unit) (Name := ℕ) (U := UU) (Lvl := ℕ) (Val := Elt F) (τ := τ) ownSem c : sProp 𝕄)
    = iprop(semVal ((c : Thread nD τ), .dma sentS) 0 ∗ semVal ((c : Thread nD τ), .dma recvS) 0) := by
  rw [Pipeline.ownSems0_eq_of_list c ownSem [0, 1] (by decide) (by decide)]; rfl

omit [FloatOps F] in
/-- The one semaphore that outlives the region is the barrier's. -/
theorem unscopedSems0_eq (c : Dev nD) : (unscopedSems0 c : sProp 𝕄) = semVal ((c : Thread nD τ), .reg barS) 0 := by
  unfold unscopedSems0; rw [bigSep_eq_bigSepL_of_eq [SemLoc.reg barS] (by decide) (by decide)]; rfl

/-! ## Contents -/

/-- Device `c`'s block of `x`, and its copy of `pi`. -/
abbrev xOf (c : Dev nD) : Vec F S1x256x256 .f32 := m ((c : Thread nD τ).loc main_arg0)
abbrev piOf (c : Dev nD) : IVec S2 32 := m ((c : Thread nD τ).loc main_arg1)

/-- Position `k` of `pi`. -/
def at2 (k : Fin 2) : S2.Idx := fun a => ⟨k.val, by fin_cases a; exact k.isLt⟩

/-- The first mesh coordinate of device `c`. -/
def row (c : Dev nD) : Fin 2 := ⟨c.val / 8, by have : c.val < 16 := c.isLt; omega⟩

/-- The word a device reads in its copy of `pi`: the one at the device's first mesh coordinate. -/
abbrev rW (c : Dev nD) : Rect S2 := Rect.unit (s := S2) (k0_off1 c) S1.size (k0_off1_inb c)
abbrev wordAt (c : Dev nD) (f : (cc0_stg1_0 : Ref sig .tc).ty.Contents (Elt F)) : BitVec 32 :=
  (piM.access (rW c) : View sig .tc _ _ _).read (Elt F) f (Shape.Idx.first (s := S1) (numel1_S1.symm ▸ Nat.one_pos))

omit [FloatOps F] in
theorem wordAt_eq (c : Dev nD) : wordAt (F := F) c (piOf m c) = piOf m c (at2 (row c)) := by
  have h : ∀ c : Dev nD, (piM.access (rW c) : View sig .tc _ _ _).emb (Shape.Idx.first (s := S1) (numel1_S1.symm ▸ Nat.one_pos)) = at2 (row c) := by
    decide +kernel
  exact congrArg (piOf m c) (h c)

omit [FloatOps F] in
/-- A whole array fetched as one block is the array. -/
theorem fetched_x (c : Dev nD) : (win0_0.blk (0 : Fin 1)).view.read (Elt F) (xOf m c) = xOf m c :=
  Memref.read_access_unit_zero (Elt F) main_arg0 (funext fun a => by fin_cases a <;> decide) (fun a => by fin_cases a <;> decide) _
omit [FloatOps F] in
theorem fetched_pi (c : Dev nD) : (win0_1.blk (0 : Fin 1)).view.read (Elt F) (piOf m c) = piOf m c :=
  Memref.read_access_unit_zero (Elt F) main_arg1 (funext fun a => by fin_cases a <;> decide) (fun a => by fin_cases a <;> decide) _

/-- The rectangle of every load and store of a block: all of it. -/
abbrev rB : Rect S1x256x256 := Rect.unit (s := S1x256x256) ![0, 0, 0] S1x256x256.size inb_S1x256x256_S1x256x256_0_0_0

theorem zeros : (![0, 0, 0] : Fin 3 → Nat) = fun _ => 0 := funext fun a => by fin_cases a <;> rfl

omit [FloatOps F] in
theorem load_x (f : (cc0_stg0_0 : Ref sig .tc).ty.Contents (Elt F)) : xM.view.readAt (Elt F) rB.toLoadRect f = f :=
  Memref.readAt_unit_zero (Elt F) cc0_stg0_0 zeros _ f
omit [FloatOps F] in
theorem load_land (f : (cc0_scratch1 : Ref sig .tc).ty.Contents (Elt F)) : landM.view.readAt (Elt F) rB.toLoadRect f = f :=
  Memref.readAt_unit_zero (Elt F) cc0_scratch1 zeros _ f
omit [FloatOps F] in
theorem store_out (f w : (cc0_stg2_0 : Ref sig .tc).ty.Contents (Elt F)) :
    (outM.access rB : View sig .tc _ _ _).write (Elt F) f w Finset.univ = w :=
  Memref.write_access_unit_zero_univ (Elt F) cc0_stg2_0 zeros _ f w
omit [FloatOps F] in
theorem store_send (f w : (cc0_scratch0 : Ref sig .tc).ty.Contents (Elt F)) :
    (sendM.access rB : View sig .tc _ _ _).write (Elt F) f w Finset.univ = w :=
  Memref.write_access_unit_zero_univ (Elt F) cc0_scratch0 zeros _ f w

/-- Buffer `b` of device `c`, whole, holding `f`. -/
abbrev holds (c : Dev nD) (b : Ref sig .tc) (f : Buf (Elt F) ((c : Thread nD τ).loc b)) : sProp 𝕄 :=
  ((c : Thread nD τ).loc b) ↦{fullShare} f

/-- The scratch buffers of device `c`, at whatever contents. -/
def scratch (c : Dev nD) : sProp 𝕄 := iprop((∃ f, holds (F := F) c cc0_scratch0 f) ∗ (∃ f, holds (F := F) c cc0_scratch1 f))

omit [FloatOps F] in
theorem scratch_eq (c : Dev nD) : (Pipeline.scopedRest (Ix := Unit) (Name := ℕ) (U := UU) (Lvl := ℕ) (Val := Elt F) spec0 c : sProp 𝕄) = scratch c :=
  scopedRest0_eq c

/-- A device at rest: every counter of the kernel's semaphores zero, the scratch buffers at whatever contents. -/
def rest (c : Dev nD) : sProp 𝕄 :=
  iprop(unscopedSems0 c ∗ Pipeline.ownSems0 (Ix := Unit) (Name := ℕ) (U := UU) (Lvl := ℕ) (Val := Elt F) (τ := τ) ownSem c ∗ scratch c)

/-! ## The pipeline's proof data -/

/-- An assertion of the permutation kernel's logic. -/
abbrev Asn (F : FTy → Type) : Type := sProp (MT nD τ sig Unit (Elt F) ℕ UU ℕ)

section Data

variable (Φ₀ Φ₁ : Dev nD → Asn F) (out : Dev nD → FVec F S1x256x256 .f32) (O : Dev nD → CellTallies nD τ sig Unit)

/-- One point: the body takes `Φ₀` to `Φ₁`, pays off what the device owes, leaves its inputs and writes `out`. -/
def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => piOf m c
    | ⟨2, _⟩ => out c
  Φ t := match t with
    | ⟨0, _⟩ => Φ₀ c
    | ⟨_ + 1, _⟩ => Φ₁ c
  q _ := fullShare
  owed t := match t with
    | ⟨0, _⟩ => O c
    | ⟨_ + 1, _⟩ => 0

/-- The body as the pipeline calls it. -/
abbrev bodyProg : Prog (TpuEff nD τ sig (Elt F) Λ₀ .tc) PUnit :=
  cc0_body xM (Memref.isWhole_whole _) piM (Memref.isWhole_whole _) outM (Memref.isWhole_whole _)
    sendM (Memref.isWhole_whole _) landM (Memref.isWhole_whole _) cc0_scratch2 cc0_scratch3

/-- What the body has, owing `T` with the waits `W` recorded, its three staging buffers holding the block, `pi` and `f`. -/
def held (c : Dev nD) (T : CellTallies nD τ sig Unit) (W : Waits sig Unit) (f : FVec F S1x256x256 .f32) : sProp 𝕄 :=
  iprop(owes (c : Thread nD τ) T W ∗ holds (F := F) c cc0_stg0_0 (xOf m c) ∗ holds (F := F) c cc0_stg1_0 (piOf m c) ∗ holds (F := F) c cc0_stg2_0 f)

/-- The body's specification on device `c`. -/
def BodyOK (c : Dev nD) : Prop :=
  ∀ (W : Waits sig Unit) (f : FVec F S1x256x256 .f32) (K : PUnit → sProp 𝕄),
    iprop((Φ₀ c ∗ held m c (O c) W f) ∗ ((Φ₁ c ∗ ∃ W', held m c 0 W' (out c)) -∗ K ⟨⟩))
      ⊢ wp frame (wpE (defs₀ (F := F)) 𝒱₀ c none) Set.univ bodyProg K

omit [FloatOps F] in
/-- Owning a whole memref at contents is holding its buffer at them. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ holds c b f) := by
  unfold owns holds; simp only [Memref.view_whole, View.read_whole, View.set_whole]

theorem before_x (c : Dev nD) (d) : (dats m Φ₀ Φ₁ out O 0 c).before (0 : Fin 3) t0_0 d = xOf m c := by
  unfold Dat.before; rw [if_pos (fetch0_0 t0_0)]; exact fetched_x m c
theorem before_pi (c : Dev nD) (d) : (dats m Φ₀ Φ₁ out O 0 c).before (1 : Fin 3) t0_0 d = piOf m c := by
  unfold Dat.before; rw [if_pos (fetch0_1 t0_0)]; exact fetched_pi m c

/-- What the pipeline hands the body, and what it wants back, buffer by buffer. -/
def given (c : Dev nD) : sProp 𝕄 :=
  iprop(Φ₀ c ∗ (dats m Φ₀ Φ₁ out O 0 c).owesAt () t0_0.castSucc
    ∗ (∃ d, ∃ f : Buf (Elt F) (((c : Dev nD) : Thread nD τ).loc cc0_stg0_0), ⌜f = (dats m Φ₀ Φ₁ out O 0 c).before (0 : Fin 3) t0_0 d⌝ ∗ holds c cc0_stg0_0 f)
    ∗ (∃ d, ∃ f : Buf (Elt F) (((c : Dev nD) : Thread nD τ).loc cc0_stg1_0), ⌜f = (dats m Φ₀ Φ₁ out O 0 c).before (1 : Fin 3) t0_0 d⌝ ∗ holds c cc0_stg1_0 f)
    ∗ (∃ d, ∃ f : Buf (Elt F) (((c : Dev nD) : Thread nD τ).loc cc0_stg2_0), ⌜f = (dats m Φ₀ Φ₁ out O 0 c).before (2 : Fin 3) t0_0 d⌝ ∗ holds c cc0_stg2_0 f))
def wanted (c : Dev nD) : sProp 𝕄 :=
  iprop(Φ₁ c ∗ (dats m Φ₀ Φ₁ out O 0 c).owesAt () t0_0.succ
    ∗ (∃ f : Buf (Elt F) (((c : Dev nD) : Thread nD τ).loc cc0_stg0_0), ⌜f = xOf m c⌝ ∗ holds c cc0_stg0_0 f)
    ∗ (∃ f : Buf (Elt F) (((c : Dev nD) : Thread nD τ).loc cc0_stg1_0), ⌜f = piOf m c⌝ ∗ holds c cc0_stg1_0 f)
    ∗ (∃ f : Buf (Elt F) (((c : Dev nD) : Thread nD τ).loc cc0_stg2_0), ⌜f = out c⌝ ∗ holds c cc0_stg2_0 f))

set_option maxRecDepth 4000 in
/-- A body that meets its specification meets the pipeline's obligation. -/
theorem obligation (c : Dev nD) (h : BodyOK m Φ₀ Φ₁ out O c) :
    BodyObligation (dats m Φ₀ Φ₁ out O 0 c) (defs₀ (F := F)) 𝒱₀ () Set.univ := fun t => by
  rw [fin_N0 t, bigSep_W0, bigSep_W0]
  simp only [owns_staged]
  show given m Φ₀ Φ₁ out O c ⊢ wp frame (wpE (defs₀ (F := F)) 𝒱₀ c none) Set.univ bodyProg (fun _ => wanted m Φ₀ Φ₁ out O c)
  unfold given Dat.owesAt Pipeline.owesWithin
  iintro ⟨HΦ, ⟨%W, %hW, HO⟩, ⟨%d0, %f0, %h0, Hx⟩, ⟨%d1, %f1, %h1, Hpi⟩, ⟨%d2, %f2, %h2, Hout⟩⟩
  have e0 := h0.trans (before_x m Φ₀ Φ₁ out O c d0)
  have e1 := h1.trans (before_pi m Φ₀ Φ₁ out O c d1)
  subst e0; subst e1
  iapply (h W f2 fun _ => wanted m Φ₀ Φ₁ out O c)
  unfold held
  isplitl [HΦ HO Hx Hpi Hout]
  · isplitl [HΦ]; · iexact HΦ
    isplitl [HO]; · iexact HO
    isplitl [Hx]; · iexact Hx
    isplitl [Hpi] <;> iassumption
  iintro ⟨HΦ, ⟨%W', HO, Hx, Hpi, Hout⟩⟩
  unfold wanted Dat.owesAt Pipeline.owesWithin
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hpi]
  · iexists _; isplitr; · (ipureintro; rfl)
    iexact Hpi
  iexists _; isplitr; · (ipureintro; rfl)
  iexact Hout

/-- After the run the result array holds what the body wrote, and the arguments hold what they held. -/
theorem arr_out (c : Dev nD) : (dats m Φ₀ Φ₁ out O 0 c).arrAt (2 : Fin 3) cfg0.N = out c :=
  (dats m Φ₀ Φ₁ out O 0 c).arrAt_eq_of_after_last (2 : Fin 3) t0_0 (by decide +kernel) (out c) fun _ => rfl
theorem arr_x (c : Dev nD) : (dats m Φ₀ Φ₁ out O 0 c).arrAt (0 : Fin 3) cfg0.N = xOf m c :=
  (dats m Φ₀ Φ₁ out O 0 c).arrAt_in (0 : Fin 3) rfl _
theorem arr_pi (c : Dev nD) : (dats m Φ₀ Φ₁ out O 0 c).arrAt (1 : Fin 3) cfg0.N = piOf m c :=
  (dats m Φ₀ Φ₁ out O 0 c).arrAt_in (1 : Fin 3) rfl _

/-! ## Levels -/

/-- A TensorCore's cells have one index, and the levels are: 1 at a barrier cell, 2 at a cell a transfer lands on, 0 at
    the others (staging, and the cell of a device's own send). -/
def L (g : GSem nD τ sig) : Finset Unit := if g.1.2 = .tc then {()} else ∅
def lv (g : GSem nD τ sig) (_ : Unit) : ℕ := if g.2 = .reg barS then 1 else if g.2 = .dma recvS then 2 else 0

theorem L_other (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton_self _

/-- A staging semaphore is none of the kernel's. -/
theorem staging_level (c : Dev nD) (w : Fin cfg0.W) (s : Fin (cfg0.win w).nbuf) (u : Unit) : lv ((c : Thread nD τ), .dma ((cfg0.win w).sem s)) u = 0 := by
  revert s; fin_cases w <;> intro s <;> fin_cases s <;> rfl

/-! ## The launch -/

/-- What a run of the kernel ends in, on every device: the arguments as they were, the result `out`, every counter zero. -/
def Ends : PUnit × MemSt nD τ sig (Elt F) → Prop := fun r =>
  (∀ c : Dev nD, r.2.mem ((c : Thread nD τ).loc main_v1) = out c ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 8000 in
/-- The launch. Given `x₀`, the ghost state of the kernel's own semaphores, dealt to the devices as `G` (`hfund`), a
    global step that turns `G` and every semaphore at zero into `G'` (`hglob`), the body's entry and exit in terms of
    them (`hin`, `hout`), levels under which a device may wait on its staging semaphores (`hwaits`), and a body that meets
    its specification (`hbody`): every fair execution from memory `m` with all counters zero ends as `Ends` says. -/
theorem run_of (G G' : Dev nD → sProp 𝕄) (x₀ : UX)
    (hfund : BI.own (EX x₀) ⊢ (|==> bigSep Finset.univ G : sProp 𝕄))
    (hglob : (bigSep Finset.univ fun c => iprop(Pipeline.ownSems0 (Ix := Unit) (Name := ℕ) (U := UU) (Lvl := ℕ) (Val := Elt F) (τ := τ) ownSem c ∗ unscopedSems0 c ∗ G c) : sProp 𝕄)
      ⊢ |={Set.univ}=> bigSep Finset.univ G')
    (hin : ∀ c, iprop((levAts L lv ∗ Pipeline.launchCred O c ∗ G' c) ∗ scratch c) ⊢ Φ₀ c)
    (hout : ∀ c, Φ₁ c ⊢ iprop(unscopedSems0 c ∗ Pipeline.ownSems0 (Ix := Unit) (Name := ℕ) (U := UU) (Lvl := ℕ) (Val := Elt F) (τ := τ) ownSem c ∗ scratch c))
    (hwaits : ∀ (c : Dev nD) (w : Fin cfg0.W) (s : Fin (cfg0.win w).nbuf) (T : CellTallies nD τ sig Unit), T = O c ∨ T = 0 →
      (levAts L lv : sProp 𝕄) ⊢ MayWait (c : Thread nD τ) (.dma ((cfg0.win w).sem s)) () T)
    (hbody : ∀ c, BodyOK m Φ₀ Φ₁ out O c) :
    θ_run defs (onTc (τ := τ) (main (F := F))) ⟨m, fun _ => 0, ρ⟩ (Ends m out) :=
  Pipeline.θ_run_region_owing_glob_pf (fun p => (cfgs p).toPCfg) (fun p => (cfgs p).toPCfg_adm) (dats m Φ₀ Φ₁ out O) () cellOf_inj (0 : Fin 1)
    winFacts0.to₀ ownSem_facts (Pipeline.PreFacts.none _) EP defs₀ 𝒱₀ m ρ main
    (hmain := fun _ => rfl)
    (hbody := fun c => obligation m Φ₀ Φ₁ out O c (hbody c)) (hne := block_pos0) (harr := arr_whole0) (hstage := stage_whole0)
    (hshare := fun c w => by unfold Dat.share; split <;> rfl)
    (hdistinct := winFacts0.arr_inj)
    (O₀ := O) (howed₀ := fun _ => rfl) (howedN := fun _ => rfl)
    (L := L) (lv := lv) (hL := L_other)
    (hwaits := fun c => Pipeline.cellsWaits_intro cfgs (dats m Φ₀ Φ₁ out O) () 0 c fun w s t => hwaits c w s _ (by
      rcases t with ⟨_ | _, ht⟩
      · exact Or.inl rfl
      · exact Or.inr rfl))
    (G := G) (G' := G') (u₀ := (initOf (Pipeline.cells cfgs cellOf_inj) (Pipeline.launchToks cfgs cellOf_inj), x₀))
    (hu₀ := by
      iintro Hu
      ihave H := (ownU_pair _ _) $$ Hu
      icases H with ⟨HP, HX⟩
      imod hfund $$ HX with HG
      imodintro
      isplitl [HP] <;> iassumption)
    (hglob := hglob)
    (hA := fun _ _ => rfl) (hpf := fun _ k => k.elim0)
    (X := fun c => iprop(levAts L lv ∗ Pipeline.launchCred O c ∗ G' c)) (Y := fun c => unscopedSems0 c) (Z := fun _ => iprop(emp))
    (hX := fun c => by
      iintro ⟨-, Hl, Hc, -, HG⟩
      imodintro
      isplitl
      · isplitl [Hl]; · iexact Hl
        isplitl [Hc] <;> iassumption
      · iempintro)
    (hin := fun c => by
      show _ ⊢ Φ₀ c
      iintro ⟨HX, -, Hs⟩
      iapply (hin c)
      isplitl [HX]; · iexact HX
      iapply (Entails.of_eq (scratch_eq (F := F) c)); iexact Hs)
    (hout := fun c => by
      show Φ₁ c ⊢ _
      refine (hout c).trans ?_
      iintro ⟨HU, HO, Hs⟩
      isplitl [HU]; · iexact HU
      isplitl [HO]; · iexact HO
      iapply (Entails.of_eq (scratch_eq (F := F) c).symm); iexact Hs)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (2 : Fin 3)).trans (arr_out m Φ₀ Φ₁ out O c), ((h c).1 (0 : Fin 3)).trans (arr_x m Φ₀ Φ₁ out O c),
      ((h c).1 (1 : Fin 3)).trans (arr_pi m Φ₀ Φ₁ out O c)⟩, sem_eq_zero hs fun c => (h c).2.2⟩)

end Data

end Cert.Permute

end
-- ==== Proof.Swap.lean ====
/- The run with `pi = [1, 0]`: device `c` and its partner exchange their blocks. Each tells the other on its barrier semaphore
   that the landing buffer is free, waits to be told, copies its block over, and waits for its own copy to be read and for
   the partner's to arrive. -/
module

public import proofs.«01_k».proof.Proof.Setting
public import Idealize.ShloMosaic.Lib.Rounds

@[expose] public section

noncomputable section

namespace Cert.Permute.Swap

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Permute

variable {F : FTy → Type} [FloatOps F]

local notation "𝕄" => MT nD τ sig Unit (Elt F) ℕ UU ℕ

variable (m : (ℓ : Loc nD τ sig) → Buf (Elt F) ℓ) (ρ : Dev nD → PrngReg)

/-! ## The partner and the word -/

/-- The device at the other first coordinate: half the mesh away. -/
def pt (c : Dev nD) : Dev nD := ⟨(c.val + 8) % 16, Nat.mod_lt _ (by decide)⟩

theorem pt_pt (c : Dev nD) : pt (pt c) = c := by revert c; decide
theorem pt_eq_iff {c d : Dev nD} : c = pt d ↔ d = pt c := ⟨fun h => by rw [h, pt_pt], fun h => by rw [h, pt_pt]⟩

/-- The word device `c` reads: the other first coordinate. -/
def word (c : Dev nD) : BitVec 32 := BitVec.ofNat 32 (1 - (row c).val)

section Word

variable (c : Dev nD) {v : BitVec 32} (hv : v = word c)
include hv

/-- With that word the kernel's first branch isn't taken, -/
theorem not_copies : ¬ (Scalar.cmpi .ne (Scalar.extui (Scalar.cmpi .eq v (Scalar.remsi (Scalar.divsi (Dev.word c) 8#32) 2#32)) : BitVec 32) 0#32 = 1#1) := by
  subst hv; revert c; decide
/-- its second is, -/
theorem sends : k0_cond2 c v = 1#1 := by subst hv; revert c; decide
/-- the devices it names are devices of the mesh, -/
theorem chk : k0_chk1 c v := by
  subst hv; unfold k0_chk1
  exact ⟨fun _ => by revert c; decide, fun _ => by revert c; decide⟩
/-- and they are the partner: the one it signals -/
theorem tells (h : k0_dev1 c v < nD) : (⟨k0_dev1 c v, h⟩ : Dev nD) = pt c := by subst hv; revert c; decide
/-- and the one it copies to. -/
theorem sends_to (h : k0_dev2 c v < nD) : (⟨k0_dev2 c v, h⟩ : Dev nD) = pt c := by subst hv; revert c; decide

end Word

/-! ## The cells -/

/-- The three semaphores: told (the barrier), read (the own copy has been read), arrived (the partner's copy is there). -/
abbrev semOf : Fin 3 → SemLoc sig := fun | 0 => .reg barS | 1 => .dma sentS | 2 => .dma recvS
abbrev cell (c : Dev nD) (k : Fin 3) : GSem nD τ sig := ((c : Thread nD τ), semOf k)

theorem semOf_inj : Function.Injective semOf := by
  intro k k' h; fin_cases k <;> fin_cases k' <;> first | rfl | exact absurd h (by decide)

theorem cell_eq_iff {c d : Dev nD} {k l : Fin 3} : cell c k = cell d l ↔ c = d ∧ k = l := by
  constructor
  · intro h
    exact ⟨congrArg (fun g : GSem nD τ sig => g.1.1) h, semOf_inj (congrArg Prod.snd h)⟩
  · rintro ⟨rfl, rfl⟩; rfl

/-- Which of the three a semaphore is, if any. -/
def which (s : SemLoc sig) : Option (Fin 3) := if s = semOf 0 then some 0 else if s = semOf 1 then some 1 else if s = semOf 2 then some 2 else none
theorem which_semOf (k : Fin 3) : which (semOf k) = some k := by revert k; decide

/-- What a copy of a block credits. -/
abbrev N : ℕ := landM.view.dmaCredit
theorem N_pos : 0 < N := View.dmaCredit_pos _ (by decide)

/-- What a semaphore counts up to: one signal, or one copy. -/
abbrev amt : Fin 3 → ℕ := fun | 0 => 1 | 1 => N | 2 => N
theorem amt_pos (k : Fin 3) : 0 < amt k := by
  fin_cases k
  · exact Nat.one_pos
  · exact N_pos
  · exact N_pos

/-! ## What travels -/

/-- The block as device `c` sends it. -/
def blk (c : Dev nD) : FVec F S1x256x256 .bf16 := k0_pay2 (xOf m c)

/-- The result on device `c`: its partner's block. -/
def out (c : Dev nD) : FVec F S1x256x256 .f32 := k0_pay3 (blk m (pt c))

/-- The two scratch buffers of device `c`, as a copy sees them. -/
def sendAt (c : Dev nD) (f : Buf (Elt F) (sendM.view.loc (c : Thread nD τ))) : sProp 𝕄 := sendM.view.loc (c : Thread nD τ) ↦[sendM.view.set]{fullShare} f
def landAt (c : Dev nD) (f : Buf (Elt F) (landM.view.loc (c : Thread nD τ))) : sProp 𝕄 := landM.view.loc (c : Thread nD τ) ↦[landM.view.set]{fullShare} f

omit [FloatOps F] in
theorem sendAt_eq (c : Dev nD) (f) : sendAt (F := F) c f = holds c cc0_scratch0 f := by unfold sendAt holds; rw [View.set_whole]
omit [FloatOps F] in
theorem landAt_eq (c : Dev nD) (f) : landAt (F := F) c f = holds c cc0_scratch1 f := by unfold landAt holds; rw [View.set_whole]

omit [FloatOps F] in
instance sendAt_storable (c : Dev nD) (f) : BI.Storable (upEmb : UEmb _ 𝕄) (sendAt (F := F) c f) := by unfold sendAt; infer_instance
omit [FloatOps F] in
instance landAt_storable (c : Dev nD) (f) : BI.Storable (upEmb : UEmb _ 𝕄) (landAt (F := F) c f) := by unfold landAt; infer_instance

omit [FloatOps F] in
/-- A copy of the send buffer over the landing buffer leaves the one's contents in the other. -/
theorem landing (fd : Buf (Elt F) (landM.view.loc ((0 : Dev nD) : Thread nD τ))) (fs : (cc0_scratch0 : Ref sig .tc).ty.Contents (Elt F)) :
    landM.view.write (Elt F) fd (sendM.view.read (Elt F) fs) Finset.univ = fs := by
  show (View.whole cc0_scratch1).write (Elt F) fd ((View.whole cc0_scratch0).read (Elt F) fs) Finset.univ = fs
  rw [View.read_whole]; exact View.write_whole_univ _ _ _

/-- What a device is handed with each of its three semaphores: told, the partner's landing buffer, and that the partner's
    arrival semaphore is where it starts; read, its send buffer back; arrived, its landing buffer holding the partner's block. -/
def brings (c : Dev nD) : Fin 3 → sProp 𝕄 := fun
  | 0 => iprop((∃ f, landAt (pt c) f) ∗ reached EX (cell (pt c) 2) 0)
  | 1 => sendAt c (blk m c)
  | 2 => landAt c (blk m (pt c))

instance brings_storable (c : Dev nD) (k : Fin 3) : BI.Storable (upEmb : UEmb _ 𝕄) (brings m c k) := by
  fin_cases k <;> (unfold brings; infer_instance)

/-! ## The schedule -/

/-- Every cell has one round of one duty. -/
def plan : Rounds.Schedule (GSem nD τ sig) Unit 𝕄 where
  duties g r := if r = 0 ∧ g.1.2 = .tc ∧ (which g.2).isSome = true then {()} else ∅
  unitless _ := False
  amount g _ _ := match which g.2 with | some k => amt k | none => 1
  payload g _ _ := match which g.2 with | some k => brings m g.1.1 k | none => iprop(emp)
  amount_pos g _ _ _ := by
    cases which g.2 with
    | none => exact Nat.one_pos
    | some k => exact amt_pos k

instance plan_storable (g : GSem nD τ sig) (r : ℕ) (d : Unit) : BI.Storable (upEmb : UEmb _ 𝕄) ((plan m).payload g r d) := by
  show BI.Storable upEmb (match which g.2 with | some k => brings m g.1.1 k | none => iprop(emp))
  cases which g.2 <;> infer_instance

section Plan

variable (c : Dev nD) (k : Fin 3)

theorem duties_cell : (plan m).duties (cell c k) 0 = {()} := by
  dsimp only [plan]; rw [which_semOf]; exact if_pos ⟨rfl, rfl, rfl⟩
theorem duties_done : ∀ r, 0 + 1 ≤ r → (plan m).duties (cell c k) r = ∅ := fun r h => by
  dsimp only [plan]; exact if_neg fun h' => by omega
theorem mem_duties (u : Unit) : u ∈ (plan m).duties (cell c k) 0 := by rw [duties_cell]; exact Finset.mem_singleton_self _
theorem amount_cell (u : Unit) : (plan m).amount (cell c k) 0 u = amt k := by dsimp only [plan]; rw [which_semOf]
theorem payload_cell (u : Unit) : (plan m).payload (cell c k) 0 u = brings m c k := by dsimp only [plan]; rw [which_semOf]
theorem expect_cell : (plan m).expect (cell c k) 0 = amt k := by
  unfold Schedule.expect Schedule.amountOf; rw [duties_cell, Finset.sum_singleton, amount_cell]
/-- The whole round's payload. -/
theorem round_cell : bigSep ((plan m).duties (cell c k) 0 \ ∅) (fun u => (plan m).payload (cell c k) 0 u) = brings m c k := by
  rw [Finset.sdiff_empty, duties_cell, bigSep_singleton, payload_cell]

end Plan

/-! ## What a device owes -/

/-- At launch a device owes its partner the copy and the signal; -/
def owing (c : Dev nD) : CellTallies nD τ sig Unit := tallyAt (cell (pt c) 2) () N + tallyAt (cell (pt c) 0) () 1

/-- a cell other than the read one is owed what it counts up to, by its owner's partner alone. -/
theorem owed_cell (c d : Dev nD) (k : Fin 3) (hk : k ≠ 1) : owing d (cell c k) () = if d = pt c then amt k else 0 := by
  unfold owing
  rw [Pi.add_apply, Finsupp.add_apply, tallyAt_apply, tallyAt_apply]
  have e (l : Fin 3) : (cell c k = cell (pt d) l ∧ () = ()) ↔ (d = pt c ∧ k = l) := by rw [cell_eq_iff, and_iff_left rfl, pt_eq_iff]
  rw [if_congr (e 2) rfl rfl, if_congr (e 0) rfl rfl]
  by_cases h : d = pt c
  · rw [if_pos h]
    fin_cases k
    · rw [if_neg (fun x => absurd x.2 (by decide)), if_pos ⟨h, rfl⟩]
    · exact absurd rfl hk
    · rw [if_pos ⟨h, rfl⟩, if_neg (fun x => absurd x.2 (by decide))]; rfl
  · rw [if_neg (fun x => h x.1), if_neg (fun x => h x.1), if_neg h]

/-- What is owed is owed at a told cell or an arrived cell. -/
theorem owing_pos {c : Dev nD} {g : GSem nD τ sig} {u : Unit} (h : 0 < owing c g u) : ∃ d k, k ≠ 1 ∧ g = cell d k := by
  unfold owing at h
  rw [Pi.add_apply, Finsupp.add_apply, tallyAt_apply, tallyAt_apply] at h
  by_contra hn
  rw [if_neg (fun e => hn ⟨_, 2, by decide, e.1⟩), if_neg (fun e => hn ⟨_, 0, by decide, e.1⟩)] at h
  exact Nat.lt_irrefl 0 h

theorem lv_cell (c : Dev nD) (k : Fin 3) (u : Unit) : lv (cell c k) u = (fun | 0 => 1 | 1 => 0 | 2 => 2 : Fin 3 → ℕ) k := by
  fin_cases k <;> rfl

omit [FloatOps F] in
/-- Whatever a device owes, it may wait on its staging semaphores, which lie below; -/
theorem waits_staging (c : Dev nD) (w : Fin cfg0.W) (s : Fin (cfg0.win w).nbuf) (T : CellTallies nD τ sig Unit) (hT : T = owing c ∨ T = 0) :
    (levAts L lv : sProp 𝕄) ⊢ MayWait (c : Thread nD τ) (.dma ((cfg0.win w).sem s)) () T := by
  rcases hT with rfl | rfl
  · refine MayOwe.of_cut (L := L) (lev := lv) 0 (fun p hp => by rw [Finset.mem_singleton.mp hp]; exact mem_L _ _ _)
      (fun g u hg => by obtain ⟨d, k, -, rfl⟩ := owing_pos hg; exact mem_L _ _ _)
      (fun p hp => by rw [Finset.mem_singleton.mp hp]; exact (staging_level c w s _).le)
      (fun g u hg => by
        obtain ⟨d, k, hk, rfl⟩ := owing_pos hg
        rw [lv_cell]; clear hg; revert hk; revert k; decide)
  · rw [MayWait_zero]; iintro -; iempintro

omit [FloatOps F] in
/-- owing the copy, it may wait to be told. -/
theorem waits_told (c : Dev nD) : (levAts L lv : sProp 𝕄) ⊢ MayWait (c : Thread nD τ) (.reg barS) () (tallyAt (cell (pt c) 2) () N) := by
  have hg {g : GSem nD τ sig} {u : Unit} (h : 0 < tallyAt (cell (pt c) 2) () N g u) : g = cell (pt c) 2 := by
    rw [tallyAt_apply] at h
    by_contra hn
    rw [if_neg (fun e => hn e.1)] at h
    exact Nat.lt_irrefl 0 h
  refine MayOwe.of_cut (L := L) (lev := lv) 1 (fun p hp => by rw [Finset.mem_singleton.mp hp]; exact mem_L _ _ _)
    (fun g u h => by rw [hg h]; exact mem_L _ _ _)
    (fun p hp => by rw [Finset.mem_singleton.mp hp]; exact (lv_cell c 0 _).le)
    (fun g u h => by rw [hg h, lv_cell]; decide)

/-! ## The ghost state -/

/-- Who pays into device `c`'s partner's, or its own, cell `k`: device `c` pays cell `k` of this device. -/
abbrev paid (c : Dev nD) (k : Fin 3) : Dev nD := if k = 1 then c else pt c

/-- What every device knows: the invariants of all cells, under the names `ν`, and that all are in their first round. -/
def known (ν : Dev nD × Fin 3 → ℕ) : sProp 𝕄 :=
  bigSep Finset.univ fun i : Dev nD × Fin 3 => iprop(cellInv EX (plan m) (ν i) (cell i.1 i.2) ∗ reached EX (cell i.1 i.2) 0)

instance known_persistent (ν : Dev nD × Fin 3 → ℕ) : BI.Persistent (known m ν) := by unfold known; infer_instance

theorem known_inv (ν : Dev nD × Fin 3 → ℕ) (c : Dev nD) (k : Fin 3) : known m ν ⊢ cellInv EX (plan m) (ν (c, k)) (cell c k) := by
  unfold known
  refine BI.Entails.trans (bigSep_elim (Finset.mem_univ (c, k))) ?_
  show (_ : sProp 𝕄) ⊢ _
  iintro ⟨H, -⟩; iexact H
theorem known_reached (ν : Dev nD × Fin 3 → ℕ) (c : Dev nD) (k : Fin 3) : known m ν ⊢ reached EX (cell c k) 0 := by
  unfold known
  refine BI.Entails.trans (bigSep_elim (Finset.mem_univ (c, k))) ?_
  show (_ : sProp 𝕄) ⊢ _
  iintro ⟨-, H⟩; iexact H

/-- What is device `c`'s alone: its place in the rounds of its own cells, and the right to pay the cells it pays. -/
def mine (c : Dev nD) : sProp 𝕄 :=
  bigSep Finset.univ fun k : Fin 3 => iprop(atPos EX (cell c k) 0 ∅ 0 ∗ dutyTok EX (cell (paid c k) k) 0 ())

/-- The two together. -/
def ghost (c : Dev nD) : sProp 𝕄 := iprop(∃ ν, known m ν ∗ mine c)

omit [FloatOps F] in
theorem over3 (Ψ : Fin 3 → sProp 𝕄) : bigSep Finset.univ Ψ = iprop(Ψ 0 ∗ Ψ 1 ∗ Ψ 2) := bigSep_univ_eq_bigSepL [0, 1, 2] (by decide) (by decide) Ψ

/-- What the body starts from: that, the credit for its told and arrived cells, the levels, and the scratch buffers. -/
def start (c : Dev nD) : sProp 𝕄 :=
  iprop(ghost m c ∗ cred (tallyAt (cell c 0) () 1) ∗ cred (tallyAt (cell c 2) () N) ∗ levAts L lv ∗ scratch c)

/-! ## The body -/

section Body

variable (ν : Dev nD × Fin 3 → ℕ) (c : Dev nD)

/-- The signal to the partner `n`: the device gives its landing buffer away and has one unit less to pay. -/
theorem tell (n : Dev nD) (hn : n = pt c) {k' : ℕ} (hk : k' = 1) {α : Type} {Q : α → sProp 𝕄} {k : PUnit → Prog (TpuEff nD τ sig (Elt F) Λ₀ .tc) α} (f) (W : Waits sig Unit) :
    iprop(known m ν ∗ owes (c : Thread nD τ) (owing c) W ∗ dutyTok EX (cell (pt c) 0) 0 () ∗ landAt c f)
      ⊢ iprop((owes (c : Thread nD τ) (tallyAt (cell (pt c) 2) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk
  refine BI.Entails.trans ?_ (Rounds.wp_signal 𝒱₀ EX (plan m) (c : Thread nD τ) none (dst := (pt c : Thread nD τ)) (κ := ν (pt c, 0))
    (d := ()) (mem_duties m (pt c) 0 ()) (amount_cell m (pt c) 0 ()) () (tallyAt (cell (pt c) 2) () N) rfl)
  show (_ : sProp 𝕄) ⊢ _
  iintro ⟨#Hn, HO, Ht, Hl⟩
  isplitr; · iapply (known_inv m ν (pt c) 0); iexact Hn
  isplitl [HO]; · iexact HO
  isplitl [Ht]; · iexact Ht
  isplitl [Hl]
  · iapply (Entails.of_eq (payload_cell m (pt c) 0 ()).symm); unfold brings; rw [pt_pt]
    isplitl [Hl]; · iexists f; iexact Hl
    iapply (known_reached m ν c 2); iexact Hn
  iapply (known_reached m ν (pt c) 0); iexact Hn

/-- The copy to the partner `n`, the last thing owed. -/
theorem send (n : Dev nD) (hn : n = pt c) {hsc : (landM : Memref sig (Dev.tc n : Thread nD τ).2.kind .vmem S1x256x256 .bf16).view.ref.isScScratch = false}
    {hsrc : sendM.view.WordExact} {hdst : landM.view.WordExact}
    {hsem : DmaTarget.Typed .vmem (.dma recvS) (.remote (Dev.tc n : Thread nD τ) (landM : Memref sig .tc .vmem S1x256x256 .bf16) (.dma sentS) hsc)}
    {α : Type} {Q : α → sProp 𝕄} {k : PUnit → Prog (TpuEff nD τ sig (Elt F) Λ₀ .tc) α} (f) (W : Waits sig Unit) :
    iprop(known m ν ∗ sendAt c (blk m c) ∗ landAt (pt c) f ∗ owes (c : Thread nD τ) (tallyAt (cell (pt c) 2) () N) W
        ∗ dutyTok EX (cell c 1) 0 () ∗ dutyTok EX (cell (pt c) 2) 0 ())
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote (Dev.tc n : Thread nD τ) landM (.dma sentS) hsc) (.dma recvS) hsrc hdst hsem) k) Q) := by
  subst hn
  refine BI.Entails.trans ?_ (Rounds.wp_send_pointsTo 𝒱₀ EX (plan m) (c : Thread nD τ) none (κ₁ := ν (c, 1)) (κ₂ := ν (pt c, 2))
    (r₁ := 0) (r₂ := 0) (d₁ := ()) (d₂ := ()) (fs := blk m c) (fd := f) (q := fullShare)
    (mem_duties m c 1 ()) (mem_duties m (pt c) 2 ()) () () N rfl (amount_cell m c 1 ()) (amount_cell m (pt c) 2 ()) 0 (by rw [zero_add]) (W := W)
    (by rw [payload_cell]; exact BI.Entails.refl _)
    (by rw [payload_cell]; unfold brings landAt; rw [landing, pt_pt]))
  show (_ : sProp 𝕄) ⊢ _
  unfold sendAt landAt
  iintro ⟨#Hn, Hs, Hl, HO, Ht1, Ht2⟩
  isplitr; · iapply (known_inv m ν c 1); iexact Hn
  isplitr; · iapply (known_inv m ν (pt c) 2); iexact Hn
  isplitl [Hs]; · iexact Hs
  isplitl [Hl]; · iexact Hl
  isplitl [HO]; · iexact HO
  isplitl [Ht1]; · iexact Ht1
  isplitr; · iapply (known_reached m ν c 1); iexact Hn
  isplitl [Ht2]; · iexact Ht2
  iapply (known_reached m ν (pt c) 2); iexact Hn

/-- A wait on one of the device's own cells, for all it counts up to: it brings what the cell brings. -/
theorem await (k : Fin 3) {w : TpuEff nD τ sig (Elt F) Λ₀ .tc PUnit} {k' : ℕ} (hk : k' = amt k)
    (hw : ∀ K : PUnit → sProp 𝕄, wpE (defs₀ (F := F)) 𝒱₀ (c : Thread nD τ) none Set.univ w K = waitSpec (c : Thread nD τ) Set.univ (semOf k) k' K)
    {α : Type} {Q : α → sProp 𝕄} {p : PUnit → Prog (TpuEff nD τ sig (Elt F) Λ₀ .tc) α} (T : CellTallies nD τ sig Unit) (W : Waits sig Unit) :
    iprop(known m ν ∗ cred (tallyAt (cell c k) () (amt k)) ∗ owes (c : Thread nD τ) T W ∗ MayWait (c : Thread nD τ) (semOf k) () T ∗ atPos EX (cell c k) 0 ∅ 0)
      ⊢ iprop(((owes (c : Thread nD τ) T (insert (semOf k, ()) W) ∗ atPos EX (cell c k) (0 + 1) ∅ 0 ∗ brings m c k)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hk
  iintro ⟨#Hn, Hc, HO, HW, Hat⟩ Hk
  iapply (Rounds.wp_wait_rest_token 𝒱₀ EX (plan m) (c : Thread nD τ) none (κ := ν (c, k)) hw (Set.mem_univ _) () (O := T) (W := W)
    (R := 0) (m := 0) (T := ∅) (by rw [Nat.zero_add, expect_cell])) $$ [Hc HO HW Hat]
  · isplitr; · iapply (known_inv m ν c k); iexact Hn
    isplitl [Hc]; · iexact Hc
    isplitl [HO]; · iexact HO
    isplitl [HW] <;> iassumption
  iintro ⟨HO, Hat, -, Hb⟩
  iapply Hk
  isplitl [HO]; · iexact HO
  isplitl [Hat]; · iexact Hat
  iapply (Entails.of_eq (round_cell m c k)); iexact Hb

/-- A cell past its round is closed: its counter is zero for good. -/
theorem close (k : Fin 3) : iprop(known m ν ∗ atPos EX (cell c k) (0 + 1) ∅ 0) ⊢ |={Set.univ}=> (semVal (cell c k) 0 : sProp 𝕄) := by
  refine BI.Entails.trans ?_ (Rounds.cell_close EX (plan m) (Set.mem_univ (ν (c, k))) (fun h => h) (R := 0 + 1) (duties_done m c k))
  show (_ : sProp 𝕄) ⊢ _
  iintro ⟨#Hn, Hat⟩
  isplitr; · iapply (known_inv m ν c k); iexact Hn
  iexact Hat

set_option maxHeartbeats 1600000 in
/-- The body, from its start to a device at rest: it reads its word, fills the send buffer, tells, is told, copies, waits for
    both copies, and writes what arrived. -/
theorem body (hpi : ∀ c, piOf m c (at2 (row c)) = word c) : BodyOK m (start m) rest (out m) owing c := fun W f K => by
  unfold bodyProg
  rw [cc0_body_eq_skeleton]; unfold cc0_body_skel
  simp only [smemLoad, smemLoadElt, Prog.lift, Prog.bind_op, Prog.bind_ret, Prog.pure_eq_ret, Prog.bind_assoc, wp_deviceId]
  unfold held start ghost mine scratch
  rw [over3]
  iintro ⟨⟨⟨⟨%ν, #Hn, ⟨Hat0, Ht0⟩, ⟨Hat1, Ht1⟩, ⟨Hat2, Ht2⟩⟩, Hc0, Hc2, #Hlev, ⟨%fs, Hs⟩, ⟨%fl, Hl⟩⟩, HO, Hx, Hpi, Hout⟩, Hk⟩
  iapply (wp_load_rect 𝒱₀ (c : Thread nD τ) none Set.univ (m := piM) (r := rW c) (Finset.subset_univ _)) $$ Hpi; iintro Hpi
  have e : wordAt c (piOf m c) = word c := (wordAt_eq m c).trans (hpi c)
  simp only [wp_assume_of _ _ _ _ (d := k0_chk1.dec _ _) (chk c e)]
  rw [if_neg (not_copies c e), dif_pos (sends c e)]
  rw [k0_part1_eq_skeleton]; unfold k0_part1_skel
  simp only [semSignalWord, semWaitWord, Prog.lift, Prog.bind_op, Prog.bind_ret, Prog.pure_eq_ret, Prog.bind_assoc]
  -- the block goes to the send buffer
  iapply (wp_load 𝒱₀ (c : Thread nD τ) none Set.univ (m := xM) (Finset.subset_univ _)) $$ Hx; iintro Hx
  rw [load_x]
  iapply (wp_load 𝒱₀ (c : Thread nD τ) none Set.univ (m := sendM) (Finset.subset_univ _)) $$ Hs; iintro Hs
  iapply (wp_store 𝒱₀ (c : Thread nD τ) none Set.univ (m := sendM) (r := rB) (Mk := Finset.univ) (Finset.subset_univ _)) $$ Hs; iintro Hs
  rw [store_send, show k0_pay2 (xOf m c) = blk m c from rfl]
  -- the partner is told
  ihave Hl := (Entails.of_eq (landAt_eq (F := F) c fl).symm) $$ Hl
  iapply (tell m ν c _ (tells c e _) (by decide) fl W) $$ [HO Ht0 Hl]
  · isplitr; · iexact Hn
    isplitl [HO]; · iexact HO
    isplitl [Ht0]; · iexact Ht0
    iexact Hl
  iintro HO
  -- the device is told
  iapply (await m ν c 0 (by decide) (wpE_semWait_eq 𝒱₀ (c : Thread nD τ) none Set.univ) (tallyAt (cell (pt c) 2) () N) W) $$ [Hc0 HO Hat0]
  · isplitr; · iexact Hn
    isplitl [Hc0]; · iexact Hc0
    isplitl [HO]; · iexact HO
    isplitr; · iapply (waits_told c); iexact Hlev
    iexact Hat0
  unfold brings
  iintro ⟨HO, Hat0, ⟨%fp, Hp⟩, -⟩
  -- the copies
  ihave Hs := (Entails.of_eq (sendAt_eq (F := F) c (blk m c)).symm) $$ Hs
  iapply (send m ν c _ (sends_to c e _) fp _) $$ [Hs Hp HO Ht1 Ht2]
  · isplitr; · iexact Hn
    isplitl [Hs]; · iexact Hs
    isplitl [Hp]; · iexact Hp
    isplitl [HO]; · iexact HO
    isplitl [Ht1]; · iexact Ht1
    iexact Ht2
  iintro ⟨Hc1, HO⟩
  iapply (await m ν c 1 (k' := sendM.view.dmaCredit) rfl (wpE_waitDma2_eq 𝒱₀ (c : Thread nD τ) none Set.univ) 0 _) $$ [Hc1 HO Hat1]
  · isplitr; · iexact Hn
    isplitl [Hc1]; · iexact Hc1
    isplitl [HO]; · iexact HO
    isplitr; · rw [MayWait_zero]; iempintro
    iexact Hat1
  unfold brings
  iintro ⟨HO, Hat1, Hs⟩
  iapply (await m ν c 2 (k' := landM.view.dmaCredit) rfl (wpE_waitDma2_eq 𝒱₀ (c : Thread nD τ) none Set.univ) 0 _) $$ [Hc2 HO Hat2]
  · isplitr; · iexact Hn
    isplitl [Hc2]; · iexact Hc2
    isplitl [HO]; · iexact HO
    isplitr; · rw [MayWait_zero]; iempintro
    iexact Hat2
  unfold brings
  iintro ⟨HO, Hat2, Hl⟩
  -- the three cells are done
  imod (close m ν c 0) $$ [Hat0] with Hz0
  · isplitr; · iexact Hn
    iexact Hat0
  imod (close m ν c 1) $$ [Hat1] with Hz1
  · isplitr; · iexact Hn
    iexact Hat1
  imod (close m ν c 2) $$ [Hat2] with Hz2
  · isplitr; · iexact Hn
    iexact Hat2
  -- what arrived is the result
  ihave Hs := (Entails.of_eq (sendAt_eq (F := F) c (blk m c))) $$ Hs
  ihave Hl := (Entails.of_eq (landAt_eq (F := F) c (blk m (pt c)))) $$ Hl
  iapply (wp_load 𝒱₀ (c : Thread nD τ) none Set.univ (m := landM) (Finset.subset_univ _)) $$ Hl; iintro Hl
  rw [load_land]
  iapply (wp_load 𝒱₀ (c : Thread nD τ) none Set.univ (m := outM) (Finset.subset_univ _)) $$ Hout; iintro Hout
  iapply (wp_store 𝒱₀ (c : Thread nD τ) none Set.univ (m := outM) (r := rB) (Mk := Finset.univ) (Finset.subset_univ _)) $$ Hout; iintro Hout
  rw [store_out, wp_ret]; imodintro
  iapply Hk
  unfold rest scratch
  rw [unscopedSems0_eq, ownSems0_eq]
  isplitl [Hz0 Hz1 Hz2 Hs Hl]
  · isplitl [Hz0]; · iexact Hz0
    isplitl [Hz1 Hz2]
    · isplitl [Hz1] <;> iassumption
    isplitl [Hs]
    · iexists _; iexact Hs
    iexists _; iexact Hl
  iexists _
  isplitl [HO]; · iexact HO
  isplitl [Hx]; · iexact Hx
  isplitl [Hpi]; · iexact Hpi
  iexact Hout

end Body

/-! ## The launch -/

/-- All cells, and the duty of each one's only round. -/
def cells : Finset (GSem nD τ sig) :=
  (Finset.univ : Finset (Dev nD × Fin 3)).map ⟨fun i => cell i.1 i.2, fun _ _ h => Prod.ext (cell_eq_iff.mp h).1 (cell_eq_iff.mp h).2⟩
def duties : Finset (GSem nD τ sig × ℕ × Unit) := cells.map ⟨fun g => (g, 0, ()), fun _ _ h => congrArg Prod.fst h⟩

omit [FloatOps F] in
/-- Over all cells is over all devices and their three. -/
theorem over_cells (Ψ : GSem nD τ sig → sProp 𝕄) : bigSep cells Ψ = bigSep Finset.univ fun c : Dev nD => bigSep Finset.univ fun k : Fin 3 => Ψ (cell c k) := by
  unfold cells; rw [bigSep_map, bigSep_univ_prod]; rfl

/-- What a cell's owner is dealt besides the cell's state: its place, that the first round is reached, the duty's token. -/
def share (g : GSem nD τ sig) : sProp 𝕄 := iprop(reached EX g 0 ∗ atPos EX g 0 ∅ 0 ∗ dutyTok EX g 0 ())

/-- What each device is dealt. -/
def dealt (c : Dev nD) : sProp 𝕄 := bigSep Finset.univ fun k : Fin 3 => iprop(roundState EX (plan m) (cell c k) 0 ∗ share (cell c k))

theorem fund : BI.own (EX (initOf cells duties)) ⊢ (|==> bigSep Finset.univ (dealt m) : sProp 𝕄) := by
  have e : bigSep Finset.univ (dealt m)
      = iprop(bigSep cells (fun g => roundState EX (plan m) g 0) ∗ bigSep cells (fun g => reached EX g 0)
          ∗ bigSep cells (fun g => atPos EX g 0 ∅ 0) ∗ bigSep duties (fun x => dutyTok EX x.1 x.2.1 x.2.2)) := by
    have d : bigSep duties (fun x => (dutyTok EX x.1 x.2.1 x.2.2 : sProp 𝕄)) = bigSep cells fun g => dutyTok EX g 0 () := by
      unfold duties; rw [bigSep_map]; rfl
    rw [d, ← bigSep_sep', ← bigSep_sep', ← bigSep_sep', over_cells]
    rfl
  rw [e]; exact Rounds.fund EX (plan m) cells duties

omit [FloatOps F] in
/-- At launch a device's three counters are zero. -/
theorem counters (c : Dev nD) :
    iprop(Pipeline.ownSems0 (Ix := Unit) (Name := ℕ) (U := UU) (Lvl := ℕ) (Val := Elt F) (τ := τ) ownSem c ∗ unscopedSems0 c)
      ⊢ (bigSep Finset.univ fun k : Fin 3 => semVal (cell c k) 0 : sProp 𝕄) := by
  rw [ownSems0_eq, unscopedSems0_eq, over3]
  iintro ⟨⟨H1, H2⟩, H0⟩
  isplitl [H0]; · iexact H0
  isplitl [H1] <;> iassumption

/-- A cell's counter and state become its invariant. -/
theorem opened (c : Dev nD) :
    iprop(Pipeline.ownSems0 (Ix := Unit) (Name := ℕ) (U := UU) (Lvl := ℕ) (Val := Elt F) (τ := τ) ownSem c ∗ unscopedSems0 c ∗ dealt m c)
      ⊢ |={Set.univ}=> (bigSep Finset.univ fun k : Fin 3 => iprop((∃ κ : ℕ, cellInv EX (plan m) κ (cell c k)) ∗ share (cell c k)) : sProp 𝕄) := by
  have step : (bigSep Finset.univ fun k : Fin 3 => iprop(semVal (cell c k) 0 ∗ roundState EX (plan m) (cell c k) 0 ∗ share (cell c k)) : sProp 𝕄)
      ⊢ |={Set.univ}=> (bigSep Finset.univ fun k : Fin 3 => iprop((∃ κ : ℕ, cellInv EX (plan m) κ (cell c k)) ∗ share (cell c k)) : sProp 𝕄) := by
    refine (bigSep_mono fun k _ => ?_).trans (bigSep_fupd _ _)
    show (_ : sProp 𝕄) ⊢ _
    iintro ⟨Hv, Hr, Hs⟩
    imod ((Rounds.body_intro EX (plan m) (cell c k)).trans inv_alloc) $$ [Hv Hr] with Hi
    · isplitl [Hv] <;> iassumption
    imodintro
    isplitl [Hi]; · iexact Hi
    iexact Hs
  refine BI.Entails.trans ?_ step
  show (_ : sProp 𝕄) ⊢ _
  rw [bigSep_sep']
  iintro ⟨HO, HU, HG⟩
  isplitl [HO HU]
  · iapply (counters (F := F) c)
    isplitl [HO] <;> iassumption
  unfold dealt
  iexact HG

/-- Each device, with each of its cells, goes to the one that pays the cell. -/
def payers : Dev nD × Fin 3 ≃ Dev nD × Fin 3 :=
  Function.Involutive.toPerm (fun i => (paid i.1 i.2, i.2)) fun i => by
    rcases i with ⟨c, k⟩
    refine Prod.ext ?_ rfl
    show paid (paid c k) k = c
    unfold paid
    by_cases h : k = 1
    · rw [if_pos h, if_pos h]
    · rw [if_neg h, if_neg h, pt_pt]

/-- The invariants of all cells and everyone's share of them, dealt out: each device knows all, and has what is its alone. -/
theorem deal :
    (bigSep Finset.univ fun c : Dev nD => bigSep Finset.univ fun k : Fin 3 => iprop((∃ κ : ℕ, cellInv EX (plan m) κ (cell c k)) ∗ share (cell c k)) : sProp 𝕄)
      ⊢ bigSep Finset.univ (ghost m) := by
  have tokens : (bigSep Finset.univ fun i : Dev nD × Fin 3 => (dutyTok EX (cell i.1 i.2) 0 () : sProp 𝕄))
      = bigSep Finset.univ fun i : Dev nD × Fin 3 => dutyTok EX (cell (paid i.1 i.2) i.2) 0 () :=
    bigSep_univ_equiv payers fun i => (dutyTok EX (cell i.1 i.2) 0 () : sProp 𝕄)
  rw [← bigSep_univ_prod (fun i : Dev nD × Fin 3 => iprop((∃ κ : ℕ, cellInv EX (plan m) κ (cell i.1 i.2)) ∗ share (cell i.1 i.2)))]
  unfold share
  rw [bigSep_sep', bigSep_sep', bigSep_sep', tokens]
  iintro ⟨HI, #HR, HA, HT⟩
  ihave HI := (BI.bigSep_exists_pi Finset.univ (fun (i : Dev nD × Fin 3) (κ : ℕ) => (cellInv EX (plan m) κ (cell i.1 i.2) : sProp 𝕄))) $$ HI
  icases HI with ⟨%ν, #HI⟩
  have give : iprop(known m ν ∗ bigSep Finset.univ fun c : Dev nD => (mine c : sProp 𝕄)) ⊢ bigSep Finset.univ (ghost m) := by
    refine (sep_mono_left (BI.bigSep_of_persistent (Finset.univ : Finset (Dev nD)) (known m ν))).trans ?_
    rw [← bigSep_sep']
    refine bigSep_mono fun c _ => ?_
    show (_ : sProp 𝕄) ⊢ _
    unfold ghost
    iintro H; iexists ν; iexact H
  iapply give
  isplitr
  · unfold known; rw [bigSep_sep']
    isplitr; · iexact HI
    iexact HR
  · have whole : (bigSep Finset.univ fun c : Dev nD => (mine c : sProp 𝕄))
        = iprop((bigSep Finset.univ fun i : Dev nD × Fin 3 => atPos EX (cell i.1 i.2) 0 ∅ 0)
            ∗ bigSep Finset.univ fun i : Dev nD × Fin 3 => dutyTok EX (cell (paid i.1 i.2) i.2) 0 ()) := by
      rw [← bigSep_sep', bigSep_univ_prod]; rfl
    rw [whole]
    isplitl [HA] <;> iassumption

omit [FloatOps F] in
/-- What the launch credits a device's cell with, for a cell that is owed to. -/
theorem credit (c : Dev nD) (k : Fin 3) (hk : k ≠ 1) :
    tallyOn (cell c k) (launchCredit (Pipeline.owing owing) 0 (cell c k)) = (tallyAt (cell c k) () (amt k) : CellTallies nD τ sig Unit) := by
  unfold tallyAt
  refine congrArg _ (Finsupp.ext fun u => ?_)
  rw [Pipeline.launchCredit_owing, Finsupp.single_eq_same, Finset.sum_congr rfl fun d _ => owed_cell c d k hk,
    Finset.sum_ite_eq' Finset.univ (pt c) fun _ => amt k, if_pos (Finset.mem_univ _)]

omit [FloatOps F] in
theorem credits (c : Dev nD) : (Pipeline.launchCred owing c : sProp 𝕄) ⊢ iprop(cred (tallyAt (cell c 0) () 1) ∗ cred (tallyAt (cell c 2) () N)) := by
  unfold Pipeline.launchCred
  have e0 := credit c 0 (by decide)
  have e2 := credit c 2 (by decide)
  rw [bigSep_univ_at _ (semOf 0), e0]
  refine sep_mono_right ?_
  rw [show (tallyAt (cell c 2) () N : CellTallies nD τ sig Unit) = _ from e2.symm]
  exact bigSep_elim (Finset.mem_erase.mpr ⟨by decide, Finset.mem_univ _⟩)

/-- With `pi = [1, 0]` every fair execution ends with every device's result its partner's block, the arguments as they were
    and every counter zero. -/
theorem run (hpi : ∀ c, piOf m c (at2 (row c)) = word c) :
    θ_run defs (onTc (τ := τ) (main (F := F))) ⟨m, fun _ => 0, ρ⟩ (Ends m (out m)) :=
  run_of m ρ (start m) rest (out m) owing (dealt m) (ghost m) (initOf cells duties) (fund m)
    (((bigSep_mono fun c _ => opened m c).trans (bigSep_fupd _ _)).trans (BI.fupd_mono (deal m)))
    (fun c => by
      unfold start
      iintro ⟨⟨Hl, Hc, Hg⟩, Hs⟩
      ihave Hc := (credits (F := F) c) $$ Hc
      icases Hc with ⟨H0, H2⟩
      isplitl [Hg]; · iexact Hg
      isplitl [H0]; · iexact H0
      isplitl [H2]; · iexact H2
      isplitl [Hl] <;> iassumption)
    (fun c => .rfl) waits_staging (fun c => body m c hpi)

end Cert.Permute.Swap

end
-- ==== Proof.Stay.lean ====
/- The run with `pi = [0, 1]`: every device copies its own block into the result, and no semaphore is touched. -/
module

public import proofs.«01_k».proof.Proof.Setting

@[expose] public section

noncomputable section

namespace Cert.Permute.Stay

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Permute

variable {F : FTy → Type} [FloatOps F]

local notation "𝕄" => MT nD τ sig Unit (Elt F) ℕ UU ℕ

variable (m : (ℓ : Loc nD τ sig) → Buf (Elt F) ℓ) (ρ : Dev nD → PrngReg)

/-! ## The word -/

/-- The word device `c` reads: its own first coordinate. -/
def word (c : Dev nD) : BitVec 32 := BitVec.ofNat 32 (row c).val

section Word

variable (c : Dev nD) {v : BitVec 32} (hv : v = word c)
include hv

/-- With that word the device doesn't send: the kernel's second branch isn't taken, -/
theorem not_sends : k0_cond2 c v ≠ 1#1 := by subst hv; revert c; decide
/-- so nothing is asked of the word; -/
theorem chk : k0_chk1 c v := ⟨fun h => absurd h (not_sends c hv), fun h => absurd h (not_sends c hv)⟩
/-- and the kernel's first branch is taken. -/
theorem copies : Scalar.cmpi .ne (Scalar.extui (Scalar.cmpi .eq v (Scalar.remsi (Scalar.divsi (Dev.word c) 8#32) 2#32)) : BitVec 32) 0#32 = 1#1 := by
  subst hv; revert c; decide

end Word

/-! ## The body -/

/-- The result on device `c`: its own block. -/
def out (c : Dev nD) : FVec F S1x256x256 .f32 := k0_pay1 (xOf m c)

set_option maxHeartbeats 800000 in
/-- The body, from a device at rest to a device at rest: it reads its word, then copies the block. -/
theorem body (hpi : ∀ c, piOf m c (at2 (row c)) = word c) (c : Dev nD) : BodyOK m rest rest (out m) (fun _ => 0) c := fun W f K => by
  unfold bodyProg
  rw [cc0_body_eq_skeleton]; unfold cc0_body_skel
  simp only [smemLoad, smemLoadElt, Prog.lift, Prog.bind_op, Prog.bind_ret, Prog.pure_eq_ret, Prog.bind_assoc, wp_deviceId]
  unfold held
  iintro ⟨⟨Hr, HO, Hx, Hpi, Hout⟩, Hk⟩
  iapply (wp_load_rect 𝒱₀ (c : Thread nD τ) none Set.univ (m := piM) (r := rW c) (Finset.subset_univ _)) $$ Hpi; iintro Hpi
  have e : wordAt c (piOf m c) = word c := (wordAt_eq m c).trans (hpi c)
  simp only [wp_assume_of _ _ _ _ (d := k0_chk1.dec _ _) (chk c e)]
  rw [if_pos (copies c e)]
  rw [dif_neg (not_sends c e)]
  iapply (wp_load 𝒱₀ (c : Thread nD τ) none Set.univ (m := xM) (Finset.subset_univ _)) $$ Hx; iintro Hx
  rw [load_x]
  iapply (wp_load 𝒱₀ (c : Thread nD τ) none Set.univ (m := outM) (Finset.subset_univ _)) $$ Hout; iintro Hout
  iapply (wp_store 𝒱₀ (c : Thread nD τ) none Set.univ (m := outM) (r := rB) (Mk := Finset.univ) (Finset.subset_univ _)) $$ Hout; iintro Hout
  rw [store_out, wp_ret]; imodintro
  iapply Hk
  isplitl [Hr]; · iexact Hr
  iexists W
  isplitl [HO]; · iexact HO
  isplitl [Hx]; · iexact Hx
  isplitl [Hpi]; · iexact Hpi
  iexact Hout

/-! ## The run -/

/-- With `pi = [0, 1]` every fair execution ends with every device's result its own block, the arguments as they were and
    every counter zero. -/
theorem run (hpi : ∀ c, piOf m c (at2 (row c)) = word c) :
    θ_run defs (onTc (τ := τ) (main (F := F))) ⟨m, fun _ => 0, ρ⟩ (Ends m (out m)) :=
  run_of m ρ rest rest (out m) (fun _ => 0) (fun _ => iprop(emp))
    (fun c => iprop(unscopedSems0 c ∗ Pipeline.ownSems0 (Ix := Unit) (Name := ℕ) (U := UU) (Lvl := ℕ) (Val := Elt F) (τ := τ) ownSem c))
    (initOf ∅ ∅)
    (by
      iintro -
      imodintro
      iapply (BI.bigSep_of_persistent Finset.univ iprop(emp))
      iempintro)
    (by
      refine (bigSep_mono fun c _ => ?_).trans (bigSep_fupd _ _)
      show (_ : sProp 𝕄) ⊢ _
      iintro ⟨HO, HU, -⟩
      imodintro
      isplitl [HU] <;> iassumption)
    (fun c => by
      unfold rest
      iintro ⟨⟨-, -, HU, HO⟩, Hs⟩
      isplitl [HU]; · iexact HU
      isplitl [HO] <;> iassumption)
    (fun c => .rfl)
    (fun c w s T hT => by
      rcases hT with rfl | rfl <;> (rw [MayWait_zero]; iintro -; iempintro))
    (body m hpi)

end Cert.Permute.Stay

end
-- ==== Proof.Words.lean ====
/- What the two preconditions say of a device's copy of `pi`: `swaps` that it is `[1, 0]`, `stays` that it is `[0, 1]`; and the
   word of it that each device then reads. -/
module

public import proofs.«01_k».proof.Proof.Swap
public import proofs.«01_k».proof.Proof.Stay
public import proofs.«01_k».proof.Proof.Gen.Pre_swaps_Kernel
public import proofs.«01_k».proof.Proof.Gen.Pre_stays_Kernel

@[expose] public section

noncomputable section

namespace Cert.Permute

open Cert.KernelIdeal Cert.KernelIdeal.Gen
open Idealize.ShloMosaic Idealize.ShloMosaic.TcCoe

variable {F : FTy → Type} [FloatOps F]

/-- The array `[a, b]`. -/
def pair (a b : BitVec 32) : IVec S2 32 := fun i => if (i 0).val = 0 then a else b

/-- Every position of `pi` is its position 0 or its position 1. -/
theorem at2_cases (i : S2.Idx) : i = at2 0 ∨ i = at2 1 := by
  have h : (i 0).val < 2 := (i 0).isLt
  have e : ∀ k : Fin 2, (i 0).val = k.val → i = at2 k := fun k hk => funext fun a => by
    obtain rfl : a = 0 := Fin.ext (Nat.lt_one_iff.mp a.isLt)
    exact Fin.ext hk
  rcases Nat.lt_or_ge (i 0).val 1 with h0 | h1
  · exact .inl (e 0 (Nat.lt_one_iff.mp h0))
  · exact .inr (e 1 (Nat.le_antisymm (Nat.le_of_lt_succ h) h1))

/-- Two comparisons for equality whose conjunction is the true bit both hold. -/
theorem both_equal {a b x y : BitVec 32} (h : IntOp.andi (IntOp.cmpi .eq a x) (IntOp.cmpi .eq b y) = 1#1) : a = x ∧ b = y := by
  have bits : ∀ p q : Bool, IntOp.andi (BitVec.ofBool p) (BitVec.ofBool q) = 1#1 → p = true ∧ q = true := by decide
  exact ⟨eq_of_beq (bits _ _ h).1, eq_of_beq (bits _ _ h).2⟩

/-- An array whose two entries are compared so is `[x, y]`. -/
theorem is_pair {p : IVec S2 32} {x y : BitVec 32} (h : p (at2 0) = x ∧ p (at2 1) = y) : p = pair x y := by
  funext i
  rcases at2_cases i with rfl | rfl
  · exact h.1
  · exact h.2

/-- Entry `k` of an array of two, cut out and taken as a scalar. -/
theorem entry (p : IVec S2 32) (k : Fin 2) (hs : S2.Slices ![k.val] S1) (hc : S1.ShapeCasts S_) :
    shapeCast S_ (extractStridedSlice S1 ![k.val] p hs) hc = fun _ => p (at2 k) := by
  funext j
  unfold shapeCast extractStridedSlice
  refine congrArg p (funext fun a => ?_)
  obtain rfl : a = 0 := Fin.ext (Nat.lt_one_iff.mp a.isLt)
  exact Fin.ext (congrArg (k.val + ·) (Nat.lt_one_iff.mp (Fin.isLt _)))

/-- An array of two whose entries, cut out, compare equal to `a` and to `b` is `[a, b]`. -/
theorem is_pair_of_entries {p : IVec S2 32} {a b : BitVec 32} (hs₀ : S2.Slices ![0] S1) (hs₁ : S2.Slices ![1] S1) (hc : S1.ShapeCasts S_) (j : S_.Idx)
    (e : andi (cmpi .eq (shapeCast S_ (extractStridedSlice S1 ![0] p hs₀) hc) (constantI S_ 32 a))
      (cmpi .eq (shapeCast S_ (extractStridedSlice S1 ![1] p hs₁) hc) (constantI S_ 32 b)) j = 1#1) : p = pair a b := by
  obtain ⟨e₀, e₁⟩ := both_equal e
  exact is_pair ⟨(congrFun (entry p 0 hs₀ hc) j).symm.trans e₀, (congrFun (entry p 1 hs₁ hc) j).symm.trans e₁⟩

/-- The precondition `swaps` says `pi = [1, 0]`. -/
theorem of_swaps (x : FVec F S1x256x256 .f32) (p : IVec S2 32) (h : Cert.Pre_swaps_Kernel.fn (F := F) x p = fun _ => 1#1) :
    p = pair 1#32 0#32 :=
  is_pair_of_entries (by decide) (by decide) (by decide) (fun a => a.elim0) (congrFun h _)

/-- The precondition `stays` says `pi = [0, 1]`. -/
theorem of_stays (x : FVec F S1x256x256 .f32) (p : IVec S2 32) (h : Cert.Pre_stays_Kernel.fn (F := F) x p = fun _ => 1#1) :
    p = pair 0#32 1#32 :=
  is_pair_of_entries (by decide) (by decide) (by decide) (fun a => a.elim0) (congrFun h _)

/-- A device's word of `[1, 0]` is the coordinate it isn't at, -/
theorem word_swaps (c : Dev nD) : pair 1#32 0#32 (at2 (row c)) = Swap.word c := by revert c; decide
/-- and of `[0, 1]` the one it is at. -/
theorem word_stays (c : Dev nD) : pair 0#32 1#32 (at2 (row c)) = Stay.word c := by revert c; decide

end Cert.Permute

end
-- ==== Proof.Reference.lean ====
/- The reference's result: `x` with its two halves taken in the order that `argsort(pi)` gives, and the block of it that a
   device of the kernel's mesh holds. -/
module

public import proofs.«01_k».proof.Proof.Words
public import proofs.«01_k».proof.Proof.Gen.ReferenceIdeal.Run
public import Idealize.ShloMosaic.Lib.Layout
public import Idealize.ShloMosaic.Lib.Quiescent

@[expose] public section

noncomputable section

namespace Cert.Permute.Reference

open Cert.ReferenceIdeal Cert.ReferenceIdeal.Gen
open Idealize.ShloMosaic Idealize.ShloMosaic.TcCoe Idealize.SL.Sem

variable {F : FTy → Type} [FloatOps F]

/-! ## The positions gathered at -/

/-- `argsort(p)`: the positions that a stable sort carries along with `p`. -/
abbrev order (p : IVec S2 32) : IVec S2 32 := (Host.sort2 S2 0 comparator_i32_i32_d0 p (iotaInDim S2 32 0)).2

/-- The positions as the gather is given them: a negative one counted from the end, each a row of one. -/
abbrev starts (p : IVec S2 32) : IVec S2x1 32 :=
  broadcastInDim S2x1 ![0] bcast_S2_S2x1_0
    (select (cmpi .slt (order p) (broadcastInDim S2 ![] bcast_S_S2 (constantI S_ 32 0#32)))
      (addi (order p) (broadcastInDim S2 ![] bcast_S_S2 (constantI S_ 32 2#32))) (order p))

/-- For `[1, 0]` they are the other position of each, -/
theorem starts_swaps (i : Fin 2) : starts (pair 1#32 0#32) (ix2 i (0 : Fin 1)) = BitVec.ofNat 32 i.rev.val := by
  revert i; decide +kernel
/-- and for `[0, 1]` each position itself. -/
theorem starts_stays (i : Fin 2) : starts (pair 0#32 1#32) (ix2 i (0 : Fin 1)) = BitVec.ofNat 32 i.val := by
  revert i; decide +kernel

/-! ## The gather -/

/-- `x` with half `i` of the result being half `f i` of `x`. -/
def picked {α : Type} (f : Fin 2 → Fin 2) (x : S2x256x256.Idx → α) : S2x256x256.Idx → α := fun y => x (ix3 (f (y 0)) (y 1) (y 2))

/-- The gather's numbers: whole halves, taken at the positions of the second operand. -/
abbrev halves : GatherDims S2x256x256 S2x1 S2x256x256 := gather_S2x256x256_S2x1_S2x256x256_12_0_n_n_0_1_1256256

/-- A gather at the positions `f` takes the halves that `f` names. -/
theorem gather_picked {α : Type} (x : S2x256x256.Idx → α) (s : IVec S2x1 32) (f : Fin 2 → Fin 2)
    (hs : ∀ i : Fin 2, s (ix2 i (0 : Fin 1)) = BitVec.ofNat 32 (f i).val) : Host.gather halves x s = picked f x := by
  funext y
  have at_row : s (halves.siIdx y ⟨0, by decide⟩) = BitVec.ofNat 32 (f (y 0)).val :=
    (congrArg s (funext fun b => by fin_cases b <;> rfl)).trans (hs (y 0))
  have clamped : ∀ k : Fin 2, min (BitVec.ofNat 32 k.val).toInt.toNat 1 = k.val := by decide
  unfold Host.gather
  refine congrArg x (funext fun a => Fin.ext ?_)
  match a with
  | ⟨0, _⟩ =>
    show min (s (halves.siIdx y ⟨0, by decide⟩)).toInt.toNat 1 + 0 + 0 = (f (y 0)).val
    rw [at_row]; exact clamped _
  | ⟨1, _⟩ => exact Nat.zero_add _
  | ⟨2, _⟩ => exact Nat.zero_add _

/-! ## The run -/

variable (m : (ℓ : Loc nD τ sig) → Buf (Elt F) ℓ) (ρ : Dev nD → PrngReg)

/-- The reference's `x` and its `pi`. -/
abbrev xOf : Vec F S2x256x256 .f32 := m (((0 : Dev nD) : Thread nD τ).loc main_arg0)
abbrev piOf : IVec S2 32 := m (((0 : Dev nD) : Thread nD τ).loc main_arg1)

/-- The reference's run, its positions named: the halves of `x` that `f` names, both arguments as they were. -/
theorem run (f : Fin 2 → Fin 2) (p : IVec S2 32) (hp : piOf m = p)
    (hs : ∀ i : Fin 2, starts p (ix2 i (0 : Fin 1)) = BitVec.ofNat 32 (f i).val) :
    θ_run defs (onTc (τ := τ) (main (F := F))) ⟨m, fun _ => 0, ρ⟩ fun r =>
      r.2.mem (((0 : Dev nD) : Thread nD τ).loc main_v7) = picked f (xOf m)
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun r h => by
    obtain ⟨h₇, h₀, h₁⟩ := h 0
    subst hp
    exact ⟨h₇.trans (gather_picked _ _ f hs), h₀, h₁⟩) (Value.run m ρ)

/-- From any memory the reference ends with its arguments as they were and, having no semaphore, no counter that isn't zero. -/
theorem frame : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (Value.run m ρ)

/-! ## A device's block -/

/-- Where device `c` of the kernel's mesh is in an array cut in two along its first dimension by the mesh's first axis. -/
abbrev place (c : Dev Cert.KernelIdeal.nD) : (b : Fin 3) → Fin (Layout.cutSize [2, 2, 4] (![[0], [], []] b)) :=
  Layout.meshBlock [2, 2, 4] ![[0], [], []] c

/-- The block of `x` that device `c` of the kernel's mesh holds: the half at its first coordinate. -/
abbrev part {α : Type} (c : Dev Cert.KernelIdeal.nD) (x : S2x256x256.Idx → α) : (⟨3, ![1, 256, 256]⟩ : Shape).Idx → α :=
  Layout.blockN ⟨3, ![1, 256, 256]⟩ ⟨3, ![2, 256, 256]⟩ (place c) x

/-- A device's block of the result is the block of `x` on any device whose half is the one picked. -/
theorem part_picked {α : Type} (f : Fin 2 → Fin 2) (x : S2x256x256.Idx → α) (c d : Dev Cert.KernelIdeal.nD) (h : row d = f (row c)) :
    part c (picked f x) = part d x := by
  have coord : ∀ e : Dev Cert.KernelIdeal.nD, (place e 0).val = (row e).val := by decide
  funext i
  refine congrArg x (funext fun a => Fin.ext ?_)
  have one : (i 0).val = 0 := Nat.lt_one_iff.mp (i 0).isLt
  have half : ∀ e : Dev Cert.KernelIdeal.nD, (row e).val * 1 + (i 0).val = (row e).val := fun e => by omega
  match a with
  | ⟨0, _⟩ =>
    show (f ⟨_, _⟩).val = (place d 0).val * 1 + (i 0).val
    rw [coord, half, h]
    refine congrArg (fun k => (f k).val) (Fin.ext ?_)
    show (place c 0).val * 1 + (i 0).val = _
    rw [coord, half]
  | ⟨1, _⟩ => rfl
  | ⟨2, _⟩ => rfl

end Cert.Permute.Reference

end
-- ==== Proof.lean ====
/- The certificate. With `pi = [1, 0]` every device ends with its partner's block, with `pi = [0, 1]` with its own (Swap.lean,
   Stay.lean), from any memory and with every counter zero; the reference ends with the halves of `x` in the order of
   `argsort(pi)` (Reference.lean); and the device's block of the one is the other. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Same
public import proofs.«01_k».proof.Proof.Words
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem
open Cert.Permute Cert.KernelIdeal

section Runs

variable {F : FTy → Type} [FloatOps F] (m : (ℓ : Loc nD τ sig) → Buf (Elt F) ℓ) (ρ : Dev nD → PrngReg)

/-- Where `swaps` holds of every device's blocks: the run of the exchange. -/
theorem run_swaps (h : ∀ c : Dev nD, Cert.Pre_swaps_Kernel.fn (F := F) (xOf m c) (piOf m c) = fun _ => 1#1) :
    θ_run defs (onTc (τ := τ) (main (F := F))) ⟨m, fun _ => 0, ρ⟩ (Ends m (Swap.out m)) :=
  Swap.run m ρ fun c => (congrFun (of_swaps _ _ (h c)) _).trans (word_swaps c)

/-- Where `stays` holds of every device's blocks: the run without an exchange. -/
theorem run_stays (h : ∀ c : Dev nD, Cert.Pre_stays_Kernel.fn (F := F) (xOf m c) (piOf m c) = fun _ => 1#1) :
    θ_run defs (onTc (τ := τ) (main (F := F))) ⟨m, fun _ => 0, ρ⟩ (Ends m (Stay.out m)) :=
  Stay.run m ρ fun c => (congrFun (of_stays _ _ (h c)) _).trans (word_stays c)

end Runs

section Values

variable (m : (ℓ : Loc nD τ sig) → Buf (Elt Ideal) ℓ)

/-- A format change being the identity on extended reals, the exchange's result is the partner's block, -/
theorem out_swaps (c : Dev nD) : Swap.out m c = xOf m (Swap.pt c) := by
  show shapeCast S1x256x256 (shapeCast S1x256x256 (xOf m (Swap.pt c)) _) _ = _
  rw [shapeCast_self, shapeCast_self]

/-- and without an exchange it is the device's own. -/
theorem out_stays (c : Dev nD) : Stay.out m c = xOf m c := by
  show shapeCast S1x256x256 (xOf m c) _ = _
  rw [shapeCast_self]

/-- The partner of a device is at the other first coordinate. -/
theorem row_pt (c : Dev nD) : row (Swap.pt c) = (row c).rev := by revert c; decide

end Values

/-- With `pi = [1, 0]` each device's result is its block of the reference's, `x` with its halves exchanged. -/
theorem swaps_value : algebraic_KernelIdeal_ReferenceIdeal := by
  intro m g m' g' pre args
  have hp : Reference.piOf m' = pair 1#32 0#32 := (args 0).2.symm.trans (of_swaps _ _ (pre 0))
  refine ⟨Reference.picked Fin.rev (Reference.xOf m'), (θ_run _ _ _).mono (fun r h c => ?_) (run_swaps m g pre),
    Reference.run m' g' Fin.rev _ hp Reference.starts_swaps⟩
  obtain ⟨h₁, h⟩ := h.1 c
  refine ⟨h₁.trans ?_, h⟩
  rw [out_swaps]
  exact (args (Swap.pt c)).1.trans (Reference.part_picked Fin.rev _ c _ (row_pt c)).symm

/-- With `pi = [0, 1]` each device's result is its block of the reference's, `x` itself. -/
theorem stays_value : algebraic_KernelIdeal_ReferenceIdeal_pre_stays_Kernel := by
  intro m g m' g' pre args
  have hp : Reference.piOf m' = pair 0#32 1#32 := (args 0).2.symm.trans (of_stays _ _ (pre 0))
  refine ⟨Reference.picked id (Reference.xOf m'), (θ_run _ _ _).mono (fun r h c => ?_) (run_stays m g pre),
    Reference.run m' g' id _ hp Reference.starts_stays⟩
  obtain ⟨h₁, h⟩ := h.1 c
  refine ⟨h₁.trans ?_, h⟩
  rw [out_stays]
  exact (args c).1.trans (Reference.part_picked id _ c c rfl).symm

/-- All the claims: each program's end state on its own, and the kernel's result against the reference's. -/
theorem claim : Cert.Claim :=
  ⟨Cert.Kernel.Gen.facts, Cert.KernelIdeal.Gen.facts, Cert.ReferenceIdeal.Gen.facts, Cert.Pre_swaps_Kernel.Gen.facts,
    Cert.Pre_stays_Kernel.Gen.facts, Cert.Pre_swaps_ReferenceIdeal.Gen.facts, Cert.Pre_stays_ReferenceIdeal.Gen.facts,
    fun m g pre => (θ_run _ _ _).mono (fun r h => ⟨fun c => (h.1 c).2, h.2⟩) (run_same m g _ (run_swaps m g pre)),
    fun m g pre => (θ_run _ _ _).mono (fun r h => ⟨fun c => (h.1 c).2, h.2⟩) (run_same m g _ (run_stays m g pre)),
    fun m g pre => (θ_run _ _ _).mono (fun r h => ⟨fun c => (h.1 c).2, h.2⟩) (run_swaps m g pre),
    fun m g pre => (θ_run _ _ _).mono (fun r h => ⟨fun c => (h.1 c).2, h.2⟩) (run_stays m g pre),
    fun m g _ => Reference.frame m g,
    fun m g _ => Reference.frame m g,
    fun m g _ => Reference.frame m g,
    trivial, swaps_value, stays_value⟩

end Cert.Proof

end
